-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 4096]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![2048, 4096]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S2048x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_13 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_12 : BitVec 32 := 2#32
  let v18 : BitVec 32 := Scalar.muli v6 c2_i32_12
  let v19 : BitVec 32 := Scalar.addi c0_i32_13 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v20 : BitVec 32 := Scalar.muli v5 c1_i32_14
  let v21 : BitVec 32 := Scalar.addi v19 v20
  v21.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Exchange.lean ====
/-
# The exchange between the two devices of a column

The mesh is 2 × 2 and device `c` sits at `x = c / 2`, `y = c % 2`. The two devices that share `y` are mates: each
multiplies its slice of `A` (columns `x`) by its block of `B` (rows `x`, columns `y`), sends that product to its
mate, and adds the product it receives.

Three semaphores of each device take part, each used once:

* the gate (the barrier semaphore): the mate signals it once it has entered the kernel, and with the signal hands
  over its receive buffer;
* the departure semaphore: the device's own transfer credits it when the product has been read out;
* the arrival semaphore: the mate's transfer credits it when the product has landed here.

This module states that agreement, the amounts and what each credit hands over, for any float values, and the order
of the waits (gate below arrival) that shows no device waits for ever.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds' records for the staging copies, one for the exchange. -/
abbrev Ghost : Type := UR sig nD τ × UR sig nD τ

local notation "𝕄" => MT nD τ sig Unit (Elt F) ℕ Ghost ℕ

/-- The staging copies' records inside the ghost state. -/
abbrev EStage : Emb (UR sig nD τ) (MT nD τ sig Unit (Elt F) ℕ Ghost ℕ) := embL
/-- The exchange's records inside the ghost state. -/
abbrev ESwap : Emb (UR sig nD τ) (MT nD τ sig Unit (Elt F) ℕ Ghost ℕ) := embR

/-! ## Mates -/

/-- The device with the other `x` and the same `y`. -/
def mate (c : Dev nD) : Dev nD := ⟨(c.val + 2) % 4, Nat.mod_lt _ (by decide)⟩

/-- Being mates is mutual. -/
theorem mate_mate (c : Dev nD) : mate (mate c) = c := by revert c; decide

/-- Taking mates, as a permutation of the devices. -/
def mates : Dev nD ≃ Dev nD := ⟨mate, mate, mate_mate, mate_mate⟩

/-- The device the signal names is the mate. -/
theorem signalled (c : Dev nD) : (⟨k0_dev1 c, k0_dev1_lt c⟩ : Dev nD) = mate c :=
  Fin.ext ((k0_dev1_eq c).trans (by revert c; decide))

/-- The device the transfer names is the mate. -/
theorem addressed (c : Dev nD) : (⟨k0_dev2 c, k0_dev2_lt c⟩ : Dev nD) = mate c :=
  Fin.ext ((k0_dev2_eq c).trans (by revert c; decide))

/-! ## The three cells of a device -/

/-- Which of the three semaphores. -/
inductive Role where
  | gate
  | left
  | come
  deriving DecidableEq

/-- There are finitely many roles, the three listed. -/
instance : Fintype Role := ⟨{.gate, .left, .come}, fun r => by cases r <;> decide⟩

/-- The semaphore of a role. -/
def Role.sem : Role → SemLoc sig
  | .gate => .reg (SemArray.scalar (sig.barrier 0 rfl) : Sems sig S_).sem
  | .left => .dma cc0_scratch1.sem
  | .come => .dma cc0_scratch2.sem

/-- The cell of a role on a device. -/
abbrev cell (r : Role) (c : Dev nD) : GSem nD τ sig := ((c : Thread nD τ), r.sem)

/-- The cell of a device's gate, spelt out. -/
abbrev gate (c : Dev nD) : GSem nD τ sig := ((c : Thread nD τ), .reg (SemArray.scalar (sig.barrier 0 rfl) : Sems sig S_).sem)
/-- The cell of a device's departures, spelt out. -/
abbrev left (c : Dev nD) : GSem nD τ sig := ((c : Thread nD τ), .dma cc0_scratch1.sem)
/-- The cell of a device's arrivals, spelt out. -/
abbrev come (c : Dev nD) : GSem nD τ sig := ((c : Thread nD τ), .dma cc0_scratch2.sem)

/-- The role a semaphore plays, if any. -/
def roleOf (s : SemLoc sig) : Option Role :=
  if s = Role.gate.sem then some .gate else if s = Role.left.sem then some .left
  else if s = Role.come.sem then some .come else none

/-- A role's semaphore plays that role and no other. -/
theorem roleOf_sem (r : Role) : roleOf r.sem = some r := by cases r <;> decide

/-- Different roles have different semaphores. -/
theorem sem_inj : Function.Injective Role.sem := fun r r' h => by
  have := congrArg roleOf h
  rw [roleOf_sem, roleOf_sem] at this
  exact Option.some.inj this

/-- Cells of different roles or different devices are different. -/
theorem cell_inj {r r' : Role} {c c' : Dev nD} (h : cell r c = cell r' c') : r = r' ∧ c = c' :=
  ⟨sem_inj (congrArg Prod.snd h), congrArg (fun g : GSem nD τ sig => g.1.1) h⟩

/-! ## The contents -/

variable (m : (ℓ : Loc nD τ sig) → Buf (Elt F) ℓ)

/-- A device's product: its slice of `A` times its block of `B`. -/
def part (c : Dev nD) : FVec F S2048x2048 .f32 :=
  k0_pay2 (m ((c : Thread nD τ).loc main_arg0)) (m ((c : Thread nD τ).loc main_arg1))

/-- A device's result: its own product plus its mate's. -/
def total (c : Dev nD) : FVec F S2048x2048 .f32 := k0_pay1 (part m c) (part m (mate c))

/-- The receive buffer of the kernel. -/
abbrev inM : Memref sig .tc .vmem S2048x2048 .f32 := Memref.whole cc0_scratch0
/-- The result buffer of the kernel. -/
abbrev outM : Memref sig .tc .vmem S2048x2048 .f32 := Memref.whole cc0_stg2_0
/-- The buffer of a device's slice of `A`. -/
abbrev lhsM : Memref sig .tc .vmem S2048x1024 .f32 := Memref.whole cc0_stg0_0
/-- The buffer of a device's block of `B`. -/
abbrev rhsM : Memref sig .tc .vmem S1024x2048 .f32 := Memref.whole cc0_stg1_0

/-- The credit of one transferred product. -/
abbrev wholeCredit : ℕ := inM.view.dmaCredit

/-- A device's whole buffer `M`, held at the contents `f`. -/
abbrev holds {s : Shape} {e : EltTy} (M : Memref sig .tc .vmem s e) (c : Dev nD)
    (f : Buf (Elt F) (M.view.loc (c : Thread nD τ))) : sProp 𝕄 :=
  iprop(M.view.loc (c : Thread nD τ) ↦[M.view.set]{fullShare} f)

/-- What a device lends its mate through the mate's gate: its receive buffer, at whatever contents, and that its
    arrival cell is open. -/
def lends (c : Dev nD) : sProp 𝕄 := iprop((∃ f, holds inM c f) ∗ reached ESwap (come c) 0)

/-! ## The agreement -/

/-- The units a role's credit is worth. -/
def worth : Role → ℕ
  | .gate => 1
  | .left => wholeCredit
  | .come => wholeCredit

/-- What a role's credit hands to the device: the gate's, what the mate lends; the departure's, the
    result buffer back, still at the product; the arrival's, the receive buffer at the mate's product. -/
def handed (c : Dev nD) : Role → sProp 𝕄
  | .gate => lends (mate c)
  | .left => holds outM c (part m c)
  | .come => holds inM c (part m (mate c))

/-- The agreement as a schedule: one round and one duty on each cell of a role. -/
def pact : Schedule (GSem nD τ sig) Unit 𝕄 where
  duties g k := if k = 0 ∧ g.1.2 = .tc ∧ (roleOf g.2).isSome then {()} else ∅
  unitless _ := False
  amount g _ _ := (roleOf g.2).elim 1 worth
  payload g _ _ := (roleOf g.2).elim iprop(emp) (handed m g.1.1)
  amount_pos g _ _ _ := by
    cases roleOf g.2 with
    | none => exact Nat.one_pos
    | some r => cases r <;> first | exact Nat.one_pos | exact View.dmaCredit_pos _ (by decide)

/-- What a role's credit hands over may be kept in a cell until it is taken. -/
instance handed_storable (c : Dev nD) (r : Role) : BI.Storable (upEmb : UEmb _ 𝕄) (handed m c r) := by
  cases r <;> (unfold handed; first | infer_instance | (unfold lends; infer_instance))

/-- So may every payload of the agreement. -/
instance payload_storable (g : GSem nD τ sig) (k : ℕ) (d : Unit) :
    BI.Storable (upEmb : UEmb _ 𝕄) ((pact (F := F) m).payload g k d) := by
  show BI.Storable upEmb ((roleOf g.2).elim iprop(emp) (handed m g.1.1))
  cases roleOf g.2 with
  | none => exact inferInstanceAs (BI.Storable upEmb iprop(emp))
  | some r => exact handed_storable m g.1.1 r

/-- A role's cell has its one duty in round 0. -/
theorem duties_cell (r : Role) (c : Dev nD) : (pact (F := F) m).duties (cell r c) 0 = {()} :=
  if_pos ⟨rfl, rfl, by rw [roleOf_sem]; rfl⟩

/-- No cell has a duty after round 0. -/
theorem duties_later (g : GSem nD τ sig) (k : ℕ) (h : 1 ≤ k) : (pact (F := F) m).duties g k = ∅ :=
  if_neg fun h' => by omega

/-- The duty's amount on a role's cell. -/
theorem amount_cell (r : Role) (c : Dev nD) (k : ℕ) (d : Unit) : (pact (F := F) m).amount (cell r c) k d = worth r := by
  show (roleOf r.sem).elim 1 worth = worth r
  rw [roleOf_sem]; rfl

/-- What the duty hands over on a role's cell. -/
theorem payload_cell (r : Role) (c : Dev nD) (k : ℕ) (d : Unit) :
    (pact (F := F) m).payload (cell r c) k d = handed m c r := by
  show (roleOf r.sem).elim iprop(emp) (handed m c) = handed m c r
  rw [roleOf_sem]; rfl

/-- The units round 0 of a role's cell expects. -/
theorem expect_cell (r : Role) (c : Dev nD) : (pact (F := F) m).expect (cell r c) 0 = worth r := by
  unfold Schedule.expect Schedule.amountOf
  rw [duties_cell, Finset.sum_singleton, amount_cell]

/-- All of round 0 of a role's cell is what its one duty hands over. -/
theorem rest_cell (r : Role) (c : Dev nD) :
    bigSep ((pact (F := F) m).duties (cell r c) 0 \ ∅) (fun d => (pact (F := F) m).payload (cell r c) 0 d) = handed m c r := by
  rw [Finset.sdiff_empty, duties_cell, bigSep_singleton, payload_cell]

/-! ## What is owed, and the order of the waits -/

/-- At launch a device owes its mate the arrival of its product and one signal at the gate. -/
def owed (c : Dev nD) : CellTallies nD τ sig Unit :=
  tallyAt (come (mate c)) () wholeCredit + tallyAt (gate (mate c)) () 1

/-- The cells with a level: every cell of a device's main core. -/
def levelled (g : GSem nD τ sig) : Finset Unit := if g.1.2 = .tc then {()} else ∅

/-- The level of a role: the gate comes before the arrival; the departure is waited for when nothing is owed. -/
def rank : Role → ℕ
  | .gate => 1
  | .left => 0
  | .come => 2

/-- The levels: a role's semaphore is at the role's, any other at 0. -/
def level (g : GSem nD τ sig) (_ : Unit) : ℕ := (roleOf g.2).elim 0 rank

/-- The level of a role's cell. -/
theorem level_cell (r : Role) (c : Dev nD) (d : Unit) : level (cell r c) d = rank r := by
  show (roleOf r.sem).elim 0 rank = rank r
  rw [roleOf_sem]; rfl

/-- A gate's level is 1. -/
theorem level_gate (c : Dev nD) (d : Unit) : level (gate c) d = 1 := level_cell .gate c d

/-- An arrival cell's level is 2. -/
theorem level_come (c : Dev nD) (d : Unit) : level (come c) d = 2 := level_cell .come c d

/-- A main core's cells have levels. -/
theorem levelled_tc (c : Dev nD) (s : SemLoc sig) : levelled ((c : Thread nD τ), s) = {()} := if_pos rfl

/-- No other core's cells have. -/
theorem levelled_other (g : GSem nD τ sig) (h : g.1.2 ≠ .tc) : levelled g = ∅ := if_neg h

/-- What is owed at launch is owed to the mate's gate or to its arrival cell. -/
theorem owed_cases {c : Dev nD} {g : GSem nD τ sig} {d : Unit} (h : 0 < owed c g d) :
    g = come (mate c) ∨ g = gate (mate c) :=
  (Pipeline.add_pos_cases h).imp (fun h => (Pipeline.tallyAt_pos h).1) (fun h => (Pipeline.tallyAt_pos h).1)

/-- While a device owes all of it, it may wait on any semaphore of level 0. -/
theorem may_wait_low (c : Dev nD) (s : SemLoc sig) (hs : roleOf s = none) :
    (levAts levelled level : sProp 𝕄) ⊢ MayWait (c : Thread nD τ) s () (owed c) :=
  Pipeline.mayWait_of_levAts (by rw [levelled_tc]; exact Finset.mem_singleton_self _) fun g _ hg => by
    have h0 : level ((c : Thread nD τ), s) () = 0 := by unfold level; rw [hs]; rfl
    rw [h0]
    rcases owed_cases hg with rfl | rfl
    · exact ⟨by rw [levelled_tc]; exact Finset.mem_singleton_self _, by rw [level_come]; exact Nat.two_pos⟩
    · exact ⟨by rw [levelled_tc]; exact Finset.mem_singleton_self _, by rw [level_gate]; exact Nat.one_pos⟩

/-- While a device owes only the arrival of its product, it may wait at its gate. -/
theorem may_wait_gate (c : Dev nD) :
    (levAts levelled level : sProp 𝕄)
      ⊢ MayWait (c : Thread nD τ) (gate c).2 () (tallyAt (come (mate c)) () wholeCredit) :=
  Pipeline.mayWait_of_levAts (by rw [levelled_tc]; exact Finset.mem_singleton_self _) fun g _ hg => by
    rw [(Pipeline.tallyAt_pos hg).1]
    exact ⟨by rw [levelled_tc]; exact Finset.mem_singleton_self _, by rw [level_come]; exact (level_gate c ()).trans_lt Nat.one_lt_two⟩

end Cert.Swap

end
-- ==== Proof.Body.lean ====
/-
# What one device's kernel does

The kernel body of a device, run from what the launch deals it: its own cells' positions, the tokens of the three
duties it performs (the signal at the mate's gate, the departure and the arrival of its product), and its buffers. It
ends with the device's result, its product plus its mate's, in the result buffer, and every counter it used at zero.
-/
module

public import proofs.«01_k».proof.Proof.Exchange

@[expose] public section

noncomputable section

namespace Cert.Swap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (κ : GSem nD τ sig → ℕ)

/-- What device `c` knows of the cells it deals with, for good: they follow the agreement, and round 0 is open. -/
def known (c : Dev nD) : sProp 𝕄 :=
  iprop(cellInv ESwap (pact m) (κ (gate c)) (gate c)
    ∗ cellInv ESwap (pact m) (κ (left c)) (left c)
    ∗ cellInv ESwap (pact m) (κ (come c)) (come c)
    ∗ cellInv ESwap (pact m) (κ (gate (mate c))) (gate (mate c))
    ∗ cellInv ESwap (pact m) (κ (come (mate c))) (come (mate c))
    ∗ reached ESwap (gate (mate c)) 0 ∗ reached ESwap (come (mate c)) 0
    ∗ reached ESwap (left c) 0 ∗ reached ESwap (come c) 0)

/-- What a device knows it keeps, however often it is used. -/
instance known_persistent (c : Dev nD) : BI.Persistent (known m κ c) := by unfold known; infer_instance

/-- What device `c` holds of the agreement: its place at each of its cells, and the tokens of its three duties. -/
def dealt (c : Dev nD) : sProp 𝕄 :=
  iprop((atPos ESwap (gate c) 0 ∅ 0 ∗ atPos ESwap (left c) 0 ∅ 0 ∗ atPos ESwap (come c) 0 ∅ 0)
    ∗ dutyTok ESwap (gate (mate c)) 0 () ∗ dutyTok ESwap (come (mate c)) 0 () ∗ dutyTok ESwap (left c) 0 ())

/-! The agreement's tables, role by role. -/

/-- The first round of a gate has the one duty. -/
theorem duties_gate (c : Dev nD) : (pact (F := F) m).duties (gate c) 0 = {()} := duties_cell m .gate c
/-- The first round of a departure cell has the one duty. -/
theorem duties_left (c : Dev nD) : (pact (F := F) m).duties (left c) 0 = {()} := duties_cell m .left c
/-- The first round of an arrival cell has the one duty. -/
theorem duties_come (c : Dev nD) : (pact (F := F) m).duties (come c) 0 = {()} := duties_cell m .come c
/-- The duty on a gate is worth one unit. -/
theorem amount_gate (c : Dev nD) : (pact (F := F) m).amount (gate c) 0 () = 1 := amount_cell m .gate c 0 ()
/-- The duty on a departure cell is worth the credit of one transferred product. -/
theorem amount_left (c : Dev nD) : (pact (F := F) m).amount (left c) 0 () = wholeCredit := amount_cell m .left c 0 ()
/-- The duty on an arrival cell is worth the credit of one transferred product. -/
theorem amount_come (c : Dev nD) : (pact (F := F) m).amount (come c) 0 () = wholeCredit := amount_cell m .come c 0 ()
/-- The first round of a gate expects one unit. -/
theorem expect_gate (c : Dev nD) : (pact (F := F) m).expect (gate c) 0 = 1 := expect_cell m .gate c
/-- The first round of a departure cell expects the credit of one transferred product. -/
theorem expect_left (c : Dev nD) : (pact (F := F) m).expect (left c) 0 = wholeCredit := expect_cell m .left c
/-- The first round of an arrival cell expects the credit of one transferred product. -/
theorem expect_come (c : Dev nD) : (pact (F := F) m).expect (come c) 0 = wholeCredit := expect_cell m .come c
/-- A gate hands over what the mate lends. -/
theorem payload_gate (c : Dev nD) : (pact (F := F) m).payload (gate c) 0 () = lends (mate c) := payload_cell m .gate c 0 ()
/-- A departure hands the result buffer back, still at the device's product. -/
theorem payload_left (c : Dev nD) : (pact (F := F) m).payload (left c) 0 ()
    = iprop(outM.view.loc (c : Thread nD τ) ↦[outM.view.set]{fullShare} part m c) :=
  payload_cell m .left c 0 ()
/-- An arrival hands over the receive buffer, at the mate's product. -/
theorem payload_come (c : Dev nD) : (pact (F := F) m).payload (come c) 0 ()
    = iprop(inM.view.loc (c : Thread nD τ) ↦[inM.view.set]{fullShare} part m (mate c)) :=
  payload_cell m .come c 0 ()

/-- All that is left to take from a departure cell is the result buffer at the device's product. -/
theorem rest_left (c : Dev nD) :
    bigSep ((pact (F := F) m).duties (left c) 0 \ ∅) (fun d => (pact (F := F) m).payload (left c) 0 d)
      = iprop(outM.view.loc (c : Thread nD τ) ↦[outM.view.set]{fullShare} part m c) := rest_cell m .left c
/-- All that is left to take from an arrival cell is the receive buffer at the mate's product. -/
theorem rest_come (c : Dev nD) :
    bigSep ((pact (F := F) m).duties (come c) 0 \ ∅) (fun d => (pact (F := F) m).payload (come c) 0 d)
      = iprop(inM.view.loc (c : Thread nD τ) ↦[inM.view.set]{fullShare} part m (mate c)) := rest_cell m .come c

/-- What a device lends, spelt out: its receive buffer and that its arrival cell is open. -/
theorem lends_eq (c : Dev nD) : lends (F := F) c =
    iprop((∃ f, inM.view.loc (c : Thread nD τ) ↦[inM.view.set]{fullShare} f) ∗ reached ESwap (come c) 0) := rfl

attribute [local sl_rounds] duties_gate duties_left duties_come amount_gate amount_left amount_come
  expect_gate expect_left expect_come payload_gate payload_left payload_come lends_eq mate_mate

/-- A load or store from the corner of a buffer. -/
theorem corner : (![0, 0] : Fin 2 → ℕ) = fun _ => 0 := funext fun a => by fin_cases a <;> rfl

/-- The kernel's loads and stores each cover the whole buffer. -/
abbrev all : Rect S2048x2048 := Rect.unit ![0, 0] S2048x2048.size inb_S2048x2048_S2048x2048_0_0

/-- After a store over the whole result buffer it holds what was stored. -/
theorem out_stored (g w : (cc0_stg2_0 : Ref sig .tc).ty.Contents (Elt F)) :
    outM.view.writes (Elt F) g [⟨all, w⟩] = w := by
  rw [View.writes_singleton]
  show (outM.access all : View sig .tc _ _ _).write (Elt F) g w Finset.univ = w
  exact Memref.write_access_unit_zero_univ (Elt F) cc0_stg2_0 corner _ g w

/-- A load of the whole result buffer reads what it holds. -/
theorem out_loaded (g : FVec F S2048x2048 .f32) : outM.view.readAt (Elt F) all.toLoadRect g = g :=
  Memref.readAt_unit_zero (Elt F) cc0_stg2_0 corner _ g

/-- A load of the whole receive buffer reads what it holds. -/
theorem in_loaded (f : FVec F S2048x2048 .f32) : inM.view.readAt (Elt F) all.toLoadRect f = f :=
  Memref.readAt_unit_zero (Elt F) cc0_scratch0 corner _ f

/-- A load of the whole left operand reads what it holds. -/
theorem lhs_loaded (f : FVec F S2048x1024 .f32) :
    lhsM.view.readAt (Elt F) (Rect.unit ![0, 0] S2048x1024.size inb_S2048x1024_S2048x1024_0_0).toLoadRect f = f :=
  Memref.readAt_unit_zero (Elt F) cc0_stg0_0 corner _ f

/-- A load of the whole right operand reads what it holds. -/
theorem rhs_loaded (f : FVec F S1024x2048 .f32) :
    rhsM.view.readAt (Elt F) (Rect.unit ![0, 0] S1024x2048.size inb_S1024x2048_S1024x2048_0_0).toLoadRect f = f :=
  Memref.readAt_unit_zero (Elt F) cc0_stg1_0 corner _ f

/-- The transfer writes the result buffer's contents over the receive buffer's. -/
theorem landed (f : (cc0_scratch0 : Ref sig .tc).ty.Contents (Elt F)) (w : (cc0_stg2_0 : Ref sig .tc).ty.Contents (Elt F)) :
    (inM.view : View sig .tc _ _ _).write (Elt F) f (outM.view.read (Elt F) w) Finset.univ = w := by
  show (View.whole cc0_scratch0 : View sig .tc _ _ _).write (Elt F) f ((View.whole cc0_stg2_0 : View sig .tc _ _ _).read (Elt F) w) Finset.univ = w
  rw [View.read_whole]
  exact View.write_whole_univ _ _ _

/-- The first store leaves the device's product: the loads before it read the operands whole. -/
theorem part_stored (c : Dev nD) (g : FVec F S2048x2048 .f32) :
    outM.view.writes (Elt F) g
      [⟨all, k0_pay2
        (lhsM.view.readAt (Elt F) (Rect.unit ![0, 0] S2048x1024.size inb_S2048x1024_S2048x1024_0_0).toLoadRect
          (m ((c : Thread nD τ).loc main_arg0)))
        (rhsM.view.readAt (Elt F) (Rect.unit ![0, 0] S1024x2048.size inb_S1024x2048_S1024x2048_0_0).toLoadRect
          (m ((c : Thread nD τ).loc main_arg1)))⟩] = part m c := by
  rw [out_stored, lhs_loaded, rhs_loaded, part]

/-- The second store leaves the device's result: the loads before it read the two products whole. -/
theorem total_stored (c : Dev nD) :
    outM.view.writes (Elt F) (part m c)
      [⟨all, k0_pay1 (outM.view.readAt (Elt F) all.toLoadRect (part m c))
        (inM.view.readAt (Elt F) all.toLoadRect (part m (mate c)))⟩] = total m c := by
  rw [out_stored, out_loaded, in_loaded, total]

attribute [local irreducible] part total

/-- A device's kernel, run from its fetched operands, its buffers at any contents, its part of the agreement and the
    credit for what its mate owes it, ends with the operands unchanged, the result buffer at the device's product plus
    its mate's, the receive buffer at the mate's product, and its three counters at zero. -/
theorem body_runs (c : Dev nD) (W : Waits sig Unit)
    (f : Buf (Elt F) ((c : Thread nD τ).loc cc0_scratch0)) (g : Buf (Elt F) ((c : Thread nD τ).loc cc0_stg2_0)) :
    iprop(known m κ c ∗ dealt c ∗ cred (tallyAt (gate c) () 1) ∗ cred (tallyAt (come c) () wholeCredit)
        ∗ levAts levelled level ∗ holds inM c f ∗ holds outM c g
        ∗ holds lhsM c (m ((c : Thread nD τ).loc main_arg0))
        ∗ holds rhsM c (m ((c : Thread nD τ).loc main_arg1))
        ∗ owes (c : Thread nD τ) (owed c) W)
      ⊢ wp frame (wpE (defs₀ (F := F)) Variants.none (c : Thread nD τ) none) Set.univ
          (cc0_body lhsM (Memref.isWhole_whole _) rhsM (Memref.isWhole_whole _) outM (Memref.isWhole_whole _) inM (Memref.isWhole_whole _) cc0_scratch1 cc0_scratch2)
          (fun _ => iprop((semVal (gate c) 0 ∗ semVal (left c) 0 ∗ semVal (come c) 0)
            ∗ holds inM c (part m (mate c)) ∗ holds outM c (total m c)
            ∗ holds lhsM c (m ((c : Thread nD τ).loc main_arg0))
            ∗ holds rhsM c (m ((c : Thread nD τ).loc main_arg1))
            ∗ ∃ W', owes (c : Thread nD τ) 0 W')) := by
  have hsig := signalled c
  have hadr := addressed c
  unfold known dealt owed holds
  iintro ⟨⟨#Ig, #Il, #Ic, #Igm, #Icm, #Rgm, #Rcm, #Rl, #Rc⟩, ⟨⟨Pg, Pl, Pc⟩, Tg, Ts⟩, Cg, Cc, #Hlev, Hin, Hout, Ha, Hb, HO⟩
  have hmay := may_wait_gate (F := F) c
  rw [cc0_body_eq_skeleton]; unfold cc0_body_skel
  rw [k0_part1_eq_skeleton]; unfold k0_part1_skel
  sl_exec
  icases Ts with ⟨Tc, Tl⟩
  rw [show outM.view.writes (Elt F) g _ = part m c from part_stored m c g]
  -- the transfer of the product to the mate
  iapply (Rounds.wp_send_pointsTo Variants.none ESwap (pact m) (c : Thread nD τ) none (κ₁ := κ (left c)) (κ₂ := κ (come (mate c)))
      (r₁ := 0) (r₂ := 0) (d₁ := ()) (d₂ := ()) (fd := Pg_pay1_v)
      (by rw [duties_left]; exact Finset.mem_singleton_self _) (by rw [duties_come]; exact Finset.mem_singleton_self _)
      () () wholeCredit rfl (amount_left m c) (amount_come m (mate c)) 0 (by rw [zero_add])
      (by rw [payload_left]) (by rw [payload_come, landed, mate_mate])) $$ [Hout Pg_pay1 HO Tl Tc]
  · isplitr; · iexact Il
    isplitr; · iexact Icm
    isplitl [Hout]; · iexact Hout
    isplitl [Pg_pay1]; · iexact Pg_pay1
    isplitl [HO]; · iexact HO
    isplitl [Tl]; · iexact Tl
    isplitr; · iexact Rl
    isplitl [Tc]; · iexact Tc
    iexact Rcm
  iintro ⟨Cl, HO⟩
  -- the two waits give the result buffer and the receive buffer back, and the sum is stored
  sl_exec
  rw [show outM.view.writes (Elt F) (part m c) _ = total m c from total_stored m c]
  imod (Rounds.cell_close ESwap (pact m) (Set.mem_univ (κ (gate c))) (fun h => h) (R := 1) (duties_later m (gate c))) $$ [Pg] with Zg
  · isplitr; · iexact Ig
    iexact Pg
  imod (Rounds.cell_close ESwap (pact m) (Set.mem_univ (κ (left c))) (fun h => h) (R := 1) (duties_later m (left c))) $$ [Pl] with Zl
  · isplitr; · iexact Il
    iexact Pl
  imod (Rounds.cell_close ESwap (pact m) (Set.mem_univ (κ (come c))) (fun h => h) (R := 1) (duties_later m (come c))) $$ [Pc] with Zc
  · isplitr; · iexact Ic
    iexact Pc
  rw [wp_ret]; imodintro
  isplitl [Zg Zl Zc]
  · isplitl [Zg]; · iexact Zg
    isplitl [Zl] <;> iassumption
  isplitl [Pc_pay1]; · iexact Pc_pay1
  isplitl [Pl_pay1]; · iexact Pl_pay1
  isplitl [Ha]; · iexact Ha
  isplitl [Hb]; · iexact Hb
  iexists _; iexact HO

end Cert.Swap

end
-- ==== Proof.Launch.lean ====
/-
# The launch

The four devices' kernels run together. The launch opens the twelve cells of the exchange, three a device, and deals
every device its places and the tokens of its duties; each device then runs its kernel, and every execution ends with
each device's operands unchanged, its result array at its product plus its mate's, and every counter at zero.
-/
module

public import proofs.«01_k».proof.Proof.Body
public import Idealize.ShloMosaic.Lib.Pipeline.CollectiveSegs
public import Idealize.ShloMosaic.Lib.Pipeline.ValueKit

@[expose] public section

noncomputable section

namespace Cert.Swap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ Ghost ℕ

variable (m : (ℓ : Loc nD τ sig) → Buf (Elt F) ℓ)

/-! ## One device's run, as the pipeline asks it -/

/-- What a device has of the agreement before its kernel runs, whatever the names of the cells. -/
def ready (c : Dev nD) : sProp 𝕄 := iprop(∃ κ, known m κ c ∗ dealt c)

/-- A device before its kernel runs, its receive buffer apart: its part of the agreement, the credit for what its mate
    owes it, and the levels. -/
def start (c : Dev nD) : sProp 𝕄 :=
  iprop(ready m c ∗ (cred (tallyAt (come c) () wholeCredit) ∗ cred (tallyAt (gate c) () 1)) ∗ levAts levelled level)

/-- A device after its kernel has run: its receive buffer at its mate's product, its counters at zero. -/
def done (c : Dev nD) : sProp 𝕄 :=
  iprop((semVal (gate c) 0 ∗ semVal (left c) 0 ∗ semVal (come c) 0) ∗ holds inM c (part m (mate c)))

/-- The data of a device's run: the operands stay, the result buffer ends at the result. -/
def dats (_ : Fin 1) (c : Dev nD) : Dat τ (Elt F) Unit ℕ Ghost ℕ cfg0 c where
  A w := m ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => total m c
  Φ t := match t with
    | ⟨0, _⟩ => iprop(start m c ∗ ∃ f, holds inM c f)
    | ⟨_ + 1, _⟩ => done m c
  q _ := fullShare
  owed t := match t with
    | ⟨0, _⟩ => owed c
    | ⟨_ + 1, _⟩ => 0

/-- The slice of `A` is fetched before the kernel runs. -/
theorem fetched_lhs : (cfg0.win (0 : Fin 3)).fetch t0_0 = true := rfl
/-- So is the block of `B`. -/
theorem fetched_rhs : (cfg0.win (1 : Fin 3)).fetch t0_0 = true := rfl

/-- The kernel finds its left operand fetched whole. -/
theorem before_lhs (c : Dev nD) (d) :
    (dats (F := F) m 0 c).before (0 : Fin 3) t0_0 d = m ((c : Thread nD τ).loc main_arg0) := by
  unfold Dat.before; rw [if_pos fetched_lhs]
  unfold Dat.fetched Dat.blockOf
  show View.read (Elt F) ((cfg0.win (0 : Fin 3)).blk t0_0).view (m ((c : Thread nD τ).loc main_arg0)) = _
  funext y
  rw [View.read_apply]
  refine congrArg (m ((c : Thread nD τ).loc main_arg0)) (funext fun a => Fin.ext ?_)
  exact Window.rect_emb_val_of_index_zero (cfg0.win (0 : Fin 3)) t0_0 a (by fin_cases a <;> rfl) y

/-- And its right operand. -/
theorem before_rhs (c : Dev nD) (d) :
    (dats (F := F) m 0 c).before (1 : Fin 3) t0_0 d = m ((c : Thread nD τ).loc main_arg1) := by
  unfold Dat.before; rw [if_pos fetched_rhs]
  unfold Dat.fetched Dat.blockOf
  show View.read (Elt F) ((cfg0.win (1 : Fin 3)).blk t0_0).view (m ((c : Thread nD τ).loc main_arg1)) = _
  funext y
  rw [View.read_apply]
  refine congrArg (m ((c : Thread nD τ).loc main_arg1)) (funext fun a => Fin.ext ?_)
  exact Window.rect_emb_val_of_index_zero (cfg0.win (1 : Fin 3)) t0_0 a (by fin_cases a <;> rfl) y

/-- A whole buffer held at given contents, in the two spellings. -/
theorem owns_eq (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) ((c : Thread nD τ).loc b), ⌜f = X⌝ ∗ ((Memref.whole b).view.loc (c : Thread nD τ) ↦[(Memref.whole b).view.set]{fullShare} f)) := by
  unfold owns; simp only [Memref.view_whole, View.read_whole]

/-- The body obligation: a device's kernel, from what the launch and the fetches give it. -/
theorem body_met (c : Dev nD) : BodyObligation (dats (F := F) m 0 c) (defs₀ (F := F)) Variants.none () Set.univ := fun t => by
  rw [fin_N0 t]
  rw [bigSep_W0, bigSep_W0]
  simp only [owns_eq]
  show iprop((start m c ∗ ∃ f, holds inM c f) ∗ (dats m 0 c).owesAt () t0_0.castSucc
      ∗ (∃ d, ∃ f, ⌜f = (dats m 0 c).before (0 : Fin 3) t0_0 d⌝ ∗ holds lhsM c f)
      ∗ (∃ d, ∃ f, ⌜f = (dats m 0 c).before (1 : Fin 3) t0_0 d⌝ ∗ holds rhsM c f)
      ∗ (∃ d, ∃ f, ⌜f = (dats m 0 c).before (2 : Fin 3) t0_0 d⌝ ∗ holds outM c f))
    ⊢ wp frame (wpE (defs₀ (F := F)) Variants.none (c : Thread nD τ) none) Set.univ
        (cc0_body lhsM (Memref.isWhole_whole _) rhsM (Memref.isWhole_whole _) outM (Memref.isWhole_whole _) inM (Memref.isWhole_whole _) cc0_scratch1 cc0_scratch2)
        (fun _ => iprop(done m c ∗ (dats m 0 c).owesAt () t0_0.succ
          ∗ (∃ f, ⌜f = m ((c : Thread nD τ).loc main_arg0)⌝ ∗ holds lhsM c f)
          ∗ (∃ f, ⌜f = m ((c : Thread nD τ).loc main_arg1)⌝ ∗ holds rhsM c f)
          ∗ (∃ f, ⌜f = total m c⌝ ∗ holds outM c f)))
  simp only [before_lhs, before_rhs]
  unfold start ready Dat.owesAt Pipeline.owesWithin
  iintro ⟨⟨⟨⟨%κ, HK, HD⟩, ⟨Cc, Cg⟩, Hlev⟩, ⟨%f, Hin⟩⟩, ⟨%W, -, HO⟩, ⟨%d0, %a, %ha, Ha⟩, ⟨%d1, %b, %hb, Hb⟩, ⟨%d2, %g, -, Hout⟩⟩
  subst ha hb
  iapply (wp_wand _ _ _) $$ [HK HD Cg Cc Hlev Hin Hout Ha Hb HO]
  · iapply (body_runs m κ c W f g)
    isplitl [HK]; · iexact HK
    isplitl [HD]; · iexact HD
    isplitl [Cg]; · iexact Cg
    isplitl [Cc]; · iexact Cc
    isplitl [Hlev]; · iexact Hlev
    isplitl [Hin]; · iexact Hin
    isplitl [Hout]; · iexact Hout
    isplitl [Ha]; · iexact Ha
    isplitl [Hb]; · iexact Hb
    iexact HO
  iintro %_ ⟨HZ, Hin, Hout, Ha, Hb, ⟨%W', HO⟩⟩
  unfold done
  isplitl [HZ Hin]
  · isplitl [HZ] <;> iassumption
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

/-! ## Opening the exchange -/

/-- The twelve cells of the exchange, by device and role. -/
def cells : Finset (GSem nD τ sig) :=
  Finset.univ.map ⟨fun p : Dev nD × Role => cell p.2 p.1, fun _ _ h => Prod.ext (cell_inj h).2 (cell_inj h).1⟩

/-- The twelve duties: round 0 of each cell has one. -/
def duties : Finset (GSem nD τ sig × ℕ × Unit) :=
  Finset.univ.map ⟨fun p : Dev nD × Role => (cell p.2 p.1, 0, ()),
    fun _ _ h => Prod.ext (cell_inj (congrArg Prod.fst h)).2 (cell_inj (congrArg Prod.fst h)).1⟩

/-- A resource per role, as three. -/
theorem by_role (Φ : Role → sProp 𝕄) : bigSep Finset.univ Φ = iprop(Φ .gate ∗ Φ .left ∗ Φ .come) :=
  bigSep_univ_eq_bigSepL [Role.gate, Role.left, Role.come] (by decide) (by decide) Φ

/-- A resource per cell, device by device. -/
theorem by_device (Φ : GSem nD τ sig → sProp 𝕄) :
    bigSep cells Φ = bigSep Finset.univ fun c : Dev nD => iprop(Φ (gate c) ∗ Φ (left c) ∗ Φ (come c)) := by
  unfold cells
  rw [bigSep_map, bigSep_univ_prod]
  exact bigSep_congr fun c _ => by rw [by_role]; rfl

/-- The duties' tokens, device by device. -/
theorem tokens_by_device :
    bigSep duties (fun x => (dutyTok ESwap x.1 x.2.1 x.2.2 : sProp 𝕄))
      = bigSep Finset.univ fun c : Dev nD =>
          iprop(dutyTok ESwap (gate c) 0 () ∗ dutyTok ESwap (left c) 0 () ∗ dutyTok ESwap (come c) 0 ()) := by
  unfold duties
  rw [bigSep_map, bigSep_univ_prod]
  exact bigSep_congr fun c _ => by rw [by_role]; rfl

/-- A cell of a role is one of the twelve. -/
theorem cell_mem (r : Role) (c : Dev nD) : cell r c ∈ cells := Finset.mem_map.mpr ⟨(c, r), Finset.mem_univ _, rfl⟩

/-- The exchange's records at launch. -/
def opening : UR sig nD τ := launchOf cells ∅ duties

/-- Device 0 is given the exchange's records, to open all the cells with. -/
def records (c : Dev nD) : sProp 𝕄 := if c = 0 then BI.own (ESwap (F := F) opening) else iprop(emp)

/-- All devices' records together are the exchange's. -/
theorem records_all : bigSep Finset.univ (records (F := F)) = BI.own (ESwap (F := F) opening) := by
  have h0 : records (F := F) 0 = BI.own (ESwap (F := F) opening) := if_pos rfl
  have hne (c : Dev nD) (h : c ∈ Finset.univ.erase (0 : Dev nD)) : records (F := F) c = iprop(emp) := if_neg (Finset.ne_of_mem_erase h)
  have hrest : bigSep (Finset.univ.erase (0 : Dev nD)) (records (F := F)) = BI.emp := (bigSep_congr hne).trans (bigSep_emp_const _)
  rw [bigSep_univ_at _ (0 : Dev nD), hrest, h0]
  exact equiv_iff.mp sep_emp

/-- What every device may know: all the cells follow the agreement and have round 0 open. -/
def allKnown (κ : GSem nD τ sig → ℕ) : sProp 𝕄 :=
  iprop(bigSep cells (fun g => cellInv ESwap (pact m) (κ g) g) ∗ bigSep cells (fun g => reached ESwap g 0))

/-- What every device may know can be given to all of them. -/
instance allKnown_persistent (κ : GSem nD τ sig → ℕ) : BI.Persistent (allKnown m κ) := by unfold allKnown; infer_instance

/-- It gives a device what it needs to know. -/
theorem known_of_all (κ : GSem nD τ sig → ℕ) (c : Dev nD) : allKnown m κ ⊢ known m κ c := by
  have hI (r : Role) (d : Dev nD) :
      bigSep cells (fun g => (cellInv ESwap (pact m) (κ g) g : sProp 𝕄)) ⊢ cellInv ESwap (pact m) (κ (cell r d)) (cell r d) :=
    bigSep_elim (cell_mem r d)
  have hR (r : Role) (d : Dev nD) :
      bigSep cells (fun g => (reached ESwap g 0 : sProp 𝕄)) ⊢ reached ESwap (cell r d) 0 := bigSep_elim (cell_mem r d)
  unfold allKnown known
  iintro ⟨#HI, #HR⟩
  isplitr; · iapply (hI .gate c); iexact HI
  isplitr; · iapply (hI .left c); iexact HI
  isplitr; · iapply (hI .come c); iexact HI
  isplitr; · iapply (hI .gate (mate c)); iexact HI
  isplitr; · iapply (hI .come (mate c)); iexact HI
  isplitr; · iapply (hR .gate (mate c)); iexact HR
  isplitr; · iapply (hR .come (mate c)); iexact HR
  isplitr; · iapply (hR .left c); iexact HR
  iapply (hR .come c); iexact HR

/-- Places and tokens, cell by cell, dealt out: a gate's and an arrival cell's token goes to the mate. -/
theorem deal :
    iprop(bigSep cells (fun g => (atPos ESwap g 0 ∅ 0 : sProp 𝕄))
        ∗ bigSep duties (fun x => (dutyTok ESwap x.1 x.2.1 x.2.2 : sProp 𝕄)))
      ⊢ bigSep Finset.univ (dealt (F := F)) := by
  rw [by_device, tokens_by_device, bigSep_sep', bigSep_sep', bigSep_sep', bigSep_sep',
    bigSep_univ_equiv mates (fun c : Dev nD => (dutyTok ESwap (gate c) 0 () : sProp 𝕄)),
    bigSep_univ_equiv mates (fun c : Dev nD => (dutyTok ESwap (come c) 0 () : sProp 𝕄))]
  unfold dealt
  rw [bigSep_sep', bigSep_sep', bigSep_sep', bigSep_sep', bigSep_sep']
  iintro ⟨HP, Tg, Tl, Tc⟩
  isplitl [HP]; · iexact HP
  isplitl [Tg]; · iexact Tg
  isplitl [Tc]; · iexact Tc
  iexact Tl

/-- The kernel's own two counters are the departure's and the arrival's. -/
abbrev ownSem : Fin 2 → SemLoc sig := ![.dma cc0_scratch1.sem, .dma cc0_scratch2.sem]

/-- They are the scoped counters that no staging copy uses. -/
theorem ownSem_facts : Pipeline.OwnSemFacts cfg0.spec ownSem := by decide

/-- The kernel's own counters at zero, as the two. -/
theorem own_eq (c : Dev nD) :
    (Pipeline.ownSems0 (Ix := Unit) (Name := ℕ) (U := Ghost) (Lvl := ℕ) (Val := Elt F) (τ := τ) ownSem c : sProp 𝕄)
      = iprop(semVal (left c) 0 ∗ semVal (come c) 0) := by
  rw [Pipeline.ownSems0_eq_of_list c ownSem [0, 1] (by decide) (by decide)]; rfl

/-- The one counter outside the kernel's scope is the gate's. -/
theorem unscoped_eq (c : Dev nD) : (unscopedSems0 c : sProp 𝕄) = semVal (gate c) 0 := by
  unfold unscopedSems0
  rw [bigSep_eq_bigSepL_of_eq [Role.gate.sem] (by decide) (by decide)]; rfl

/-- The launch opens all the cells at once and deals the devices their parts. -/
theorem opened :
    (bigSep Finset.univ fun c => iprop(Pipeline.ownSems0 (Ix := Unit) (Name := ℕ) (U := Ghost) (Lvl := ℕ) (Val := Elt F) (τ := τ) ownSem c
        ∗ unscopedSems0 c ∗ records c) : sProp 𝕄)
      ⊢ |={Set.univ}=> bigSep Finset.univ (ready m) := by
  have hv : iprop((bigSep Finset.univ fun c : Dev nD => iprop(semVal (left c) 0 ∗ semVal (come c) 0))
      ∗ bigSep Finset.univ fun c : Dev nD => semVal (gate c) 0) ⊢ bigSep cells (fun g => (semVal g 0 : sProp 𝕄)) := by
    rw [by_device, ← bigSep_sep']
    refine bigSep_mono fun c _ => ?_
    show iprop((semVal (left c) 0 ∗ semVal (come c) 0) ∗ semVal (gate c) 0) ⊢ iprop(semVal (gate c) 0 ∗ semVal (left c) 0 ∗ semVal (come c) 0)
    · iintro ⟨⟨H1, H2⟩, H3⟩
      isplitl [H3]; · iexact H3
      isplitl [H1] <;> iassumption
  rw [bigSep_sep', bigSep_sep', records_all]
  rw [bigSep_congr fun c _ => own_eq c, bigSep_congr fun c _ => unscoped_eq c]
  iintro ⟨Hs, Hg, Hu⟩
  ihave Hv := hv $$ [Hs Hg]
  · isplitl [Hs] <;> iassumption
  imod (Rounds.fund_launch ESwap (pact m) (S := cells) (Sd := ∅) (Finset.disjoint_empty_right _) (fun _ h => absurd h (Finset.notMem_empty _))
    duties ∅) $$ [Hv Hu] with ⟨%κ, -, HI, HR, HP, -, HT⟩
  · isplitl [Hv]; · iexact Hv
    iexact Hu
  rw [Finset.union_empty]
  ihave HD := (deal (F := F)) $$ [HP HT]
  · isplitl [HP] <;> iassumption
  imodintro
  iapply (bigSep_with_persistent (R := allKnown m κ) (Φ := dealt) fun c _ => by
    iintro ⟨HK, HD⟩
    unfold ready
    iexists κ
    isplitl [HK]; · iapply (known_of_all m κ c); iexact HK
    iexact HD)
  isplitl [HI HR]
  · unfold allKnown
    isplitl [HI] <;> iassumption
  iexact HD

/-- The launch credits a device for what its mate owes it. -/
theorem credited (c : Dev nD) :
    (Pipeline.launchCred owed c : sProp 𝕄) ⊢ iprop(cred (tallyAt (come c) () wholeCredit) ∗ cred (tallyAt (gate c) () 1)) := by
  unfold owed
  rw [Pipeline.launchCred_add]
  exact BI.sep_mono (Pipeline.launchCred_tallyAt _ mate mate mate_mate mate_mate () wholeCredit c)
    (Pipeline.launchCred_tallyAt _ mate mate mate_mate mate_mate () 1 c)

/-- While a device owes what it owes at launch, it may wait for its staging copies. -/
theorem staging_waits (c : Dev nD) : (levAts levelled level : sProp 𝕄) ⊢ Pipeline.cellsWaits cfgs (dats m) () 0 c :=
  Pipeline.cellsWaits_intro cfgs (dats m) () 0 c fun w s t => by
    rcases t with ⟨_ | _, ht⟩
    · exact may_wait_low c _ (by fin_cases w <;> fin_cases s <;> decide)
    · show _ ⊢ MayWait (c : Thread nD τ) _ () 0
      rw [MayWait_zero]; exact BI.affine

/-- A device's start, out of what the launch hands it. -/
theorem start_given (ρ : Dev nD → PrngReg) (c : Dev nD) :
    iprop(Pipeline.unscopedRestP Pipeline.Prefetch.none cfg0.spec c (fun b => m ((c : Thread nD τ).loc b)) ∗ levAts levelled level
        ∗ Pipeline.launchCred owed c ∗ prngReg c (ρ c) ∗ ready m c)
      ⊢ |={Set.univ}=> iprop(start m c ∗ emp) := by
  iintro ⟨-, Hlev, Hcr, -, HG⟩
  ihave Hc := (credited (F := F) c) $$ Hcr
  imodintro
  unfold start
  isplitl
  · isplitl [HG]; · iexact HG
    isplitl [Hc] <;> iassumption
  · iempintro

/-- A device's whole receive buffer held, in the two spellings. -/
theorem inbox_eq (c : Dev nD) (f : Buf (Elt F) ((c : Thread nD τ).loc cc0_scratch0)) :
    (holds inM c f : sProp 𝕄) = iprop(((c : Thread nD τ).loc cc0_scratch0) ↦{fullShare} f) := by
  show iprop(((c : Thread nD τ).loc cc0_scratch0) ↦[(View.whole cc0_scratch0 : View sig .tc _ _ _).set]{fullShare} f) = _
  rw [View.set_whole]

/-- With its receive buffer, that is what the run begins from. -/
theorem begins (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ iprop(start m c ∗ ∃ f, holds inM c f)
  rw [scopedRest0_eq]
  iintro ⟨Hs, -, ⟨%f, Hr⟩⟩
  isplitl [Hs]; · iexact Hs
  iexists f
  rw [inbox_eq]; iexact Hr

/-- What the run ends with gives the counters back at zero, and the receive buffer. -/
theorem ends (c : Dev nD) :
    (dats m 0 c).Φ (Fin.last cfg0.N) ⊢ iprop(unscopedSems0 c ∗ Pipeline.ownSems0 ownSem c ∗ Pipeline.scopedRest cfg0.spec c) := by
  show done m c ⊢ _
  rw [scopedRest0_eq, own_eq, unscoped_eq]
  unfold done; rw [inbox_eq]
  iintro ⟨⟨Hg, Hl, Hc⟩, Hr⟩
  isplitl [Hg]; · iexact Hg
  isplitl [Hl Hc]
  · isplitl [Hl] <;> iassumption
  iexists part m (mate c); iexact Hr

/-! ## The run -/

/-- Each array after the run, as the pipeline states it. -/
abbrev final (c : Dev nD) (w : Fin cfg0.W) : Buf (Elt F) ((cfg0.win w).arr.view.loc (c : Thread nD τ)) := (dats m 0 c).arrAt w cfg0.N

/-- The left operand's array is unchanged. -/
theorem final_lhs (c : Dev nD) : final m c (0 : Fin 3) = m ((c : Thread nD τ).loc main_arg0) :=
  (dats m 0 c).arrAt_in (0 : Fin 3) rfl _

/-- The right operand's array is unchanged. -/
theorem final_rhs (c : Dev nD) : final m c (1 : Fin 3) = m ((c : Thread nD τ).loc main_arg1) :=
  (dats m 0 c).arrAt_in (1 : Fin 3) rfl _

/-- The result's array is the device's result. -/
theorem final_out (c : Dev nD) : final m c (2 : Fin 3) = total m c :=
  (dats m 0 c).arrAt_eq_of_after_last (2 : Fin 3) t0_0 (by decide +kernel) _ fun _ => rfl

set_option maxRecDepth 8000 in
/-- Every execution of the kernel program from zero counters ends, with each array as `final` says and every counter at
    zero. -/
theorem runs_final (ρ : Dev nD → PrngReg) :
    θ_run defs (onTc (τ := τ) (main (F := F))) ⟨m, fun _ => 0, ρ⟩ (fun r =>
      (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EStage defs₀ Variants.none m ρ main
    (hmain := fun _ => rfl)
    (hbody := body_met m) (hne := fun w => by fin_cases w <;> exact Nat.succ_pos _) (harr := arr_whole0) (hstage := stage_whole0)
    (hshare := fun _ _ => by unfold Dat.share; split <;> rfl)
    (hdistinct := winFacts0.arr_inj)
    (O₀ := owed) (howed₀ := fun _ => rfl) (howedN := fun _ => rfl)
    (L := levelled) (lv := level) (hL := levelled_other) (hwaits := staging_waits m)
    (G := records) (G' := ready m)
    (u₀ := (initOf (Pipeline.cells cfgs cellOf_inj) (Pipeline.launchToks cfgs cellOf_inj), opening))
    (hu₀ := by
      iintro Hu
      ihave H := (ownU_pair _ _) $$ Hu
      icases H with ⟨HP, HX⟩
      imodintro
      isplitl [HP]; · iexact HP
      rw [records_all]; iexact HX)
    (hglob := opened m)
    (hA := fun _ _ => rfl) (hpf := fun _ k => k.elim0)
    (X := start m) (Y := fun c => unscopedSems0 c) (Z := fun _ => iprop(emp))
    (hX := start_given m ρ) (hin := begins m) (hout := ends m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every execution of the kernel program from zero counters ends, and then each device's result array holds its product
    plus its mate's, its two operand arrays hold what they held, and every counter is at zero. -/
theorem runs (ρ : Dev nD → PrngReg) :
    θ_run defs (onTc (τ := τ) (main (F := F))) ⟨m, fun _ => 0, ρ⟩ (fun r =>
      (∀ c : Dev nD, r.2.mem ((c.tc : Thread nD τ).loc main_v1) = total m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨(h.1 c (2 : Fin 3)).trans (final_out m c),
    (h.1 c (0 : Fin 3)).trans (final_lhs m c), (h.1 c (1 : Fin 3)).trans (final_rhs m c)⟩, h.2⟩) (runs_final m ρ)

end Cert.Swap

end
-- ==== Proof.Value.lean ====
/-
# What the four devices have computed

At the ideal values a device's product is half of a sum: with the device at `(x, y)`, entry `(i, j)` of its product is
`∑ k, A[i, 1024 x + k] · B[1024 x + k, 2048 y + j]` over the 1024 positions of its half of the contracted axis. Its mate
has the other half of the same sum, so the two added are entry `(i, 2048 y + j)` of `A · B`, whichever half comes first.
-/
module

public import proofs.«01_k».proof.Proof.Exchange
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.ValueIdx
public import Idealize.ShloMosaic.Lib.Pipeline.Value

@[expose] public section

noncomputable section

namespace Cert.Swap

open Cert.KernelIdeal Cert.KernelIdeal.Gen
open Idealize.ShloMosaic Idealize.ShloMosaic.TcCoe Idealize.ShloMosaic.ValueIdx
open scoped BigOperators

/-- The whole of `A`, over the ideal values. -/
abbrev WholeA : Type := FVec Ideal ⟨2, ![2048, 2048]⟩ .f32
/-- The whole of `B`, over the ideal values; the product `A · B` has the same shape. -/
abbrev WholeB : Type := FVec Ideal ⟨2, ![2048, 4096]⟩ .f32

/-! ## Products entry by entry -/

/-- Entry `(i, j)` of a device's product is the sum over its 1024 contracted positions. -/
theorem product_entry (a : FVec Ideal S2048x1024 .f32) (b : FVec Ideal S1024x2048 .f32) (i j : Fin 2048) :
    k0_pay2 a b (ix2 i j) = ∑ k : Fin 1024, a (ix2 i k) * b (ix2 k j) := by
  unfold k0_pay2
  simp only [shapeCast_self]
  refine (Ideal.matmul_plain_apply (M := 2048) (K := 1024) (N := 2048) _ a b _ i j).trans ?_
  rw [constant_apply, Ideal.ofBits_zero_f32, zero_add]

/-- Adding two products adds them entry by entry. -/
theorem added_entry (p q : FVec Ideal S2048x2048 .f32) (x : S2048x2048.Idx) : k0_pay1 p q x = p x + q x := by
  unfold k0_pay1
  simp only [shapeCast_self]
  exact addf_apply p q x

/-- Entry `(i, j)` of the reference's product is the sum over all 2048 contracted positions. -/
theorem reference_entry (A : WholeA) (B : WholeB) (i : Fin 2048) (j : Fin 4096) :
    Host.dotGeneral Cert.ReferenceIdeal.dot_S2048x2048_S2048x4096_S2048x4096_1_0_0_1_n_n none A B (ix2 i j)
      = ∑ k : Fin 2048, A (ix2 i k) * B (ix2 k j) :=
  StackMember.dotGeneral_plain_apply (m := 2048) (k := 2048) (n := 4096) none A B i j

/-! ## Where a device's entries are in the whole arrays -/

/-- The `k`-th contracted position of the devices with `x` in the whole contracted axis. -/
def along (x : Fin 2) (k : Fin 1024) : Fin 2048 := ⟨x.val * 1024 + k.val, by have := x.isLt; have := k.isLt; omega⟩

/-- The `j`-th column of the devices with `y` among all columns. -/
def across (y : Fin 2) (j : Fin 2048) : Fin 4096 := ⟨y.val * 2048 + j.val, by have := y.isLt; have := j.isLt; omega⟩

/-- A device's first coordinate. -/
def xOf (c : Dev nD) : Fin 2 := ⟨c.val / 2 % 2, Nat.mod_lt _ (by decide)⟩

/-- A device's second coordinate. -/
def yOf (c : Dev nD) : Fin 2 := ⟨c.val % 2, Nat.mod_lt _ (by decide)⟩

/-- Mates have the same second coordinate. -/
theorem yOf_mate (c : Dev nD) : yOf (mate c) = yOf c := by revert c; decide

/-- Of two mates one has first coordinate 0 and the other 1. -/
theorem xOf_mate (c : Dev nD) : xOf c = 0 ∧ xOf (mate c) = 1 ∨ xOf c = 1 ∧ xOf (mate c) = 0 := by revert c; decide

/-- Entry `(i, k)` of a device's slice of `A` is entry `(i, 1024 x + k)` of `A`. -/
theorem slice_entry (c : Dev nD) (A : WholeA) (i : Fin 2048) (k : Fin 1024) :
    (Layout.blockN ⟨2, ![2048, 1024]⟩ ⟨2, ![2048, 2048]⟩ (Layout.meshBlock [2, 2] ![[], [0]] c) A) (ix2 i k)
      = A (ix2 i (along (xOf c) k)) := by
  refine congrArg A (funext fun b => Fin.ext ?_)
  match b with
  | ⟨0, _⟩ => exact (congrArg (· + i.val) (Nat.zero_mul 2048)).trans (Nat.zero_add _)
  | ⟨1, _⟩ => exact congrArg (fun n => n * 1024 + k.val) (show Layout.meshLin [2, 2] c.val [0] = _ by revert c; decide)

/-- Entry `(k, j)` of a device's block of `B` is entry `(1024 x + k, 2048 y + j)` of `B`. -/
theorem block_entry (c : Dev nD) (B : WholeB) (k : Fin 1024) (j : Fin 2048) :
    (Layout.blockN ⟨2, ![1024, 2048]⟩ ⟨2, ![2048, 4096]⟩ (Layout.meshBlock [2, 2] ![[0], [1]] c) B) (ix2 k j)
      = B (ix2 (along (xOf c) k) (across (yOf c) j)) := by
  refine congrArg B (funext fun b => Fin.ext ?_)
  match b with
  | ⟨0, _⟩ => exact congrArg (fun n => n * 1024 + k.val) (show Layout.meshLin [2, 2] c.val [0] = _ by revert c; decide)
  | ⟨1, _⟩ => exact congrArg (fun n => n * 2048 + j.val) (show Layout.meshLin [2, 2] c.val [1] = _ by revert c; decide)

/-- Entry `(i, j)` of a device's part of the product is entry `(i, 2048 y + j)` of the product. -/
theorem result_entry (c : Dev nD) (C : WholeB) (i j : Fin 2048) :
    (Layout.blockN ⟨2, ![2048, 2048]⟩ ⟨2, ![2048, 4096]⟩ (Layout.meshBlock [2, 2] ![[], [1]] c) C) (ix2 i j)
      = C (ix2 i (across (yOf c) j)) := by
  refine congrArg C (funext fun b => Fin.ext ?_)
  match b with
  | ⟨0, _⟩ => exact (congrArg (· + i.val) (Nat.zero_mul 2048)).trans (Nat.zero_add _)
  | ⟨1, _⟩ => exact congrArg (fun n => n * 2048 + j.val) (show Layout.meshLin [2, 2] c.val [1] = _ by revert c; decide)

/-! ## The two halves together -/

/-- A sum over the whole contracted axis is the sum over the positions of `x = 0` plus that over those of `x = 1`. -/
theorem two_halves (f : Fin 2048 → EReal) :
    ∑ k, f k = (∑ k : Fin 1024, f (along 0 k)) + ∑ k : Fin 1024, f (along 1 k) := by
  refine (Fin.sum_univ_add (a := 1024) (b := 1024) f).trans (congrArg₂ (· + ·) ?_ ?_)
  · exact Finset.sum_congr rfl fun k _ => congrArg f (Fin.ext (by simp [along]))
  · exact Finset.sum_congr rfl fun k _ => congrArg f (Fin.ext (by simp [along, Nat.add_comm]))

/-- With the operands of every device its blocks of `A` and `B`, a device's result is its block of columns of `A · B`. -/
theorem total_eq (m : (ℓ : Loc nD τ sig) → Buf (Elt Ideal) ℓ) (A : WholeA) (B : WholeB)
    (hA : ∀ c : Dev nD, m ((c : Thread nD τ).loc main_arg0)
      = Layout.blockN ⟨2, ![2048, 1024]⟩ ⟨2, ![2048, 2048]⟩ (Layout.meshBlock [2, 2] ![[], [0]] c) A)
    (hB : ∀ c : Dev nD, m ((c : Thread nD τ).loc main_arg1)
      = Layout.blockN ⟨2, ![1024, 2048]⟩ ⟨2, ![2048, 4096]⟩ (Layout.meshBlock [2, 2] ![[0], [1]] c) B) (c : Dev nD) :
    total m c = Layout.blockN ⟨2, ![2048, 2048]⟩ ⟨2, ![2048, 4096]⟩ (Layout.meshBlock [2, 2] ![[], [1]] c)
      (Host.dotGeneral Cert.ReferenceIdeal.dot_S2048x2048_S2048x4096_S2048x4096_1_0_0_1_n_n none A B) := by
  have half (d : Dev nD) (i j : Fin 2048) : part m d (ix2 i j)
      = ∑ k : Fin 1024, A (ix2 i (along (xOf d) k)) * B (ix2 (along (xOf d) k) (across (yOf d) j)) := by
    unfold part
    rw [hA d, hB d, product_entry]
    exact Finset.sum_congr rfl fun k _ => congrArg₂ (· * ·) (slice_entry d A i k) (block_entry d B k j)
  funext p
  obtain ⟨i, j, rfl⟩ : ∃ i j : Fin 2048, p = ix2 i j := ⟨p 0, p 1, eq_ix2 p⟩
  refine Eq.trans ?_ (result_entry c _ i j).symm
  rw [reference_entry, two_halves, total, added_entry, half, half, yOf_mate]
  rcases xOf_mate c with ⟨h, h'⟩ | ⟨h, h'⟩ <;> rw [h, h']
  exact add_comm _ _

end Cert.Swap

end
-- ==== Proof.lean ====
/-
# The certificate

The kernel and the ideal kernel have the same text, so both of their frames come from one run, stated for any float
values in Proof/Launch.lean. The reference is one product on one device. Proof/Value.lean compares the two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs run the same kernel body at each label. -/
theorem bodies_same : Cert.KernelIdeal.defs₀ (F := Bits) = Cert.Kernel.defs₀ (F := Bits) := by
  funext κ l x
  match κ with
  | .tc => match l, x with
    | ⟨0, _⟩, _ => rfl
    | ⟨_ + 1, h⟩, _ => exact absurd h (Nat.not_lt.2 (Nat.le_add_left _ _))
  | .scScalar _ => rfl
  | .scVector _ _ => rfl

/-- So the two programs have the same bodies and pipelines. -/
theorem defs_same : Cert.KernelIdeal.defs (F := Bits) = Cert.Kernel.defs (F := Bits) :=
  congrArg (Pipeline.defs (Cert.KernelIdeal.pcfgs (F := Bits))) bodies_same

/-- The kernel at the hardware's float words ends with its operands unchanged and every counter at zero. -/
theorem frame_kernel : Cert.quiescent_Kernel := by
  intro m ρ _
  have run := (θ_run (Cert.KernelIdeal.defs (F := Bits)) _ _).mono
    (Q' := fun r => (∀ c : Dev Cert.KernelIdeal.nD,
      r.2.mem ((c.tc : Thread Cert.KernelIdeal.nD Cert.KernelIdeal.τ).loc Cert.KernelIdeal.main_arg0)
          = m ((c.tc : Thread Cert.Kernel.nD Cert.Kernel.τ).loc Cert.Kernel.main_arg0)
        ∧ r.2.mem ((c.tc : Thread Cert.KernelIdeal.nD Cert.KernelIdeal.τ).loc Cert.KernelIdeal.main_arg1)
          = m ((c.tc : Thread Cert.Kernel.nD Cert.Kernel.τ).loc Cert.Kernel.main_arg1)) ∧ r.2.sem = fun _ => 0)
    (fun _ h => ⟨fun c => (h.1 c).2, h.2⟩) (Cert.Swap.runs (F := Bits) m ρ)
  rw [defs_same] at run
  exact run

/-- The ideal kernel ends with its operands unchanged and every counter at zero. -/
theorem frame_ideal : Cert.quiescent_KernelIdeal := fun m ρ _ =>
  (θ_run Cert.KernelIdeal.defs _ _).mono (fun _ h => ⟨fun c => (h.1 c).2, h.2⟩) (Cert.Swap.runs (F := Ideal) m ρ)

/-- The reference ends with its operands unchanged; it has no counter that could differ from zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its block of columns of the reference's product `A · B`. -/
theorem same_value : Cert.algebraic_KernelIdeal_ReferenceIdeal := by
  intro m ρ m' ρ' _ agree
  refine ⟨Host.dotGeneral (F := Ideal) (φ₁ := .f32) (φ₂ := .f32)
      Cert.ReferenceIdeal.dot_S2048x2048_S2048x4096_S2048x4096_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    ?_, ?_⟩
  · exact (θ_run Cert.KernelIdeal.defs _ _).mono
      (fun _ h c => ⟨(h.1 c).1.trans (Cert.Swap.total_eq m _ _ (fun d => (agree d).1) (fun d => (agree d).2) c), (h.1 c).2⟩)
      (Cert.Swap.runs (F := Ideal) m ρ)
  · exact (θ_run Cert.ReferenceIdeal.defs _ _).mono (fun _ h => h 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_ideal, frame_reference, trivial, same_value⟩

end Cert.Proof

end
